-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x96x384x384 : Shape := ⟨4, ![4, 96, 384, 384]⟩
abbrev S1x16x384x384 : Shape := ⟨4, ![1, 16, 384, 384]⟩
abbrev S1x16x384 : Shape := ⟨3, ![1, 16, 384]⟩
abbrev S1x16x384x1 : Shape := ⟨4, ![1, 16, 384, 1]⟩
abbrev S1x16x1 : Shape := ⟨3, ![1, 16, 1]⟩
abbrev S1x16x1x1 : Shape := ⟨4, ![1, 16, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S4x96x384x384, .f32⟩
  | .hbm, ⟨1, _⟩ => ⟨S4x96x384x384, .f32⟩
  | .local _ .vmem, ⟨0, _⟩ => ⟨S1x16x384x384, .f32⟩
  | .local _ .vmem, ⟨1, _⟩ => ⟨S1x16x384x384, .f32⟩
  | .local _ .vmem, ⟨2, _⟩ => ⟨S1x16x384x384, .f32⟩
  | .local _ .vmem, ⟨3, _⟩ => ⟨S1x16x384x384, .f32⟩
  | _, _ => ⟨S4x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S4x96x384x384 : Shape := ⟨4, ![4, 96, 384, 384]⟩
abbrev S4x96x147456 : Shape := ⟨3, ![4, 96, 147456]⟩
abbrev S_ : Shape := ⟨0, ![]⟩
abbrev S4x96 : Shape := ⟨2, ![4, 96]⟩
abbrev S4 : Shape := ⟨1, ![4]⟩
abbrev S4x1 : Shape := ⟨2, ![4, 1]⟩
abbrev S96 : Shape := ⟨1, ![96]⟩
abbrev S1x96 : Shape := ⟨2, ![1, 96]⟩
abbrev S4x96x1 : Shape := ⟨3, ![4, 96, 1]⟩
abbrev S4x96x3 : Shape := ⟨3, ![4, 96, 3]⟩

abbrev nBuf : Space → Nat
  | .hbm => 45
  | .vmem => 0
  | .smem => 0
  | _ => 0

abbrev bufTy : (tb : Table) → Fin (tcTables nBuf tb) → BufTy
  | .hbm, ⟨0, _⟩ => ⟨S4x96x384x384, .f32⟩
  | .hbm, ⟨1, _⟩ => ⟨S4x96x147456, .f32⟩
  | .hbm, ⟨2, _⟩ => ⟨S4x96x147456, .i32⟩
  | .hbm, ⟨3, _⟩ => ⟨S_, .f32⟩
  | .hbm, ⟨4, _⟩ => ⟨S_, .i32⟩
  | .hbm, ⟨5, _⟩ => ⟨S4x96, .f32⟩
  | .hbm, ⟨6, _⟩ => ⟨S4x96, .i32⟩
  | .hbm, ⟨7, _⟩ => ⟨S4, .i32⟩
  | .hbm, ⟨8, _⟩ => ⟨S4x1, .i32⟩
  | .hbm, ⟨9, _⟩ => ⟨S96, .i32⟩
  | .hbm, ⟨10, _⟩ => ⟨S1x96, .i32⟩
  | .hbm, ⟨11, _⟩ => ⟨S_, .f32⟩
  | .hbm, ⟨12, _⟩ => ⟨S4x96x147456, .f32⟩
  | .hbm, ⟨13, _⟩ => ⟨S_, .i32⟩
  | .hbm, ⟨14, _⟩ => ⟨S4x1, .i32⟩
  | .hbm, ⟨15, _⟩ => ⟨S4x1, .i1⟩
  | .hbm, ⟨16, _⟩ => ⟨S_, .i32⟩
  | .hbm, ⟨17, _⟩ => ⟨S4x1, .i32⟩
  | .hbm, ⟨18, _⟩ => ⟨S4x1, .i32⟩
  | .hbm, ⟨19, _⟩ => ⟨S4x1, .i32⟩
  | .hbm, ⟨20, _⟩ => ⟨S_, .i32⟩
  | .hbm, ⟨21, _⟩ => ⟨S1x96, .i32⟩
  | .hbm, ⟨22, _⟩ => ⟨S1x96, .i1⟩
  | .hbm, ⟨23, _⟩ => ⟨S_, .i32⟩
  | .hbm, ⟨24, _⟩ => ⟨S1x96, .i32⟩
  | .hbm, ⟨25, _⟩ => ⟨S1x96, .i32⟩
  | .hbm, ⟨26, _⟩ => ⟨S1x96, .i32⟩
  | .hbm, ⟨27, _⟩ => ⟨S_, .i32⟩
  | .hbm, ⟨28, _⟩ => ⟨S4x96, .i32⟩
  | .hbm, ⟨29, _⟩ => ⟨S4x96, .i1⟩
  | .hbm, ⟨30, _⟩ => ⟨S_, .i32⟩
  | .hbm, ⟨31, _⟩ => ⟨S4x96, .i32⟩
  | .hbm, ⟨32, _⟩ => ⟨S4x96, .i32⟩
  | .hbm, ⟨33, _⟩ => ⟨S4x96, .i32⟩
  | .hbm, ⟨34, _⟩ => ⟨S4x96, .i32⟩
  | .hbm, ⟨35, _⟩ => ⟨S4x96, .i32⟩
  | .hbm, ⟨36, _⟩ => ⟨S4x96x1, .i32⟩
  | .hbm, ⟨37, _⟩ => ⟨S4x96x1, .i32⟩
  | .hbm, ⟨38, _⟩ => ⟨S4x96x1, .i32⟩
  | .hbm, ⟨39, _⟩ => ⟨S4x96x3, .i32⟩
  | .hbm, ⟨40, _⟩ => ⟨S_, .f32⟩
  | .hbm, ⟨41, _⟩ => ⟨S4x96, .f32⟩
  | .hbm, ⟨42, _⟩ => ⟨S4x96x147456, .f32⟩
  | .hbm, ⟨43, _⟩ => ⟨S4x96x147456, .f32⟩
  | .hbm, ⟨44, _⟩ => ⟨S4x96x384x384, .f32⟩
  | _, _ => ⟨S4x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.Plane.lean ====
/-
  The first maximum of a plane, and the words by which the kernel finds it: for each row its maximum and the first column that
  reaches it, then the first row whose maximum is the plane's, then the column of that row.
-/
module

public import Idealize.ShloMosaic.PureOps
public import Idealize.ShloMosaic.PureOps.Ideal
public import Idealize.ShloMosaic.PureOps.Ideal.Laws
public import Idealize.ShloMosaic.Lib.SortNet.Extract
public import Idealize.ShloMosaic.Lib.Pointwise

@[expose] public section

noncomputable section

namespace Cert.Plane

open Idealize.ShloMosaic

/-- Position (h, w) holds the first maximum of the plane `f` in row-major order: no entry is greater, and every entry
    equal to it stands at or after (h, w). -/
def IsFirst (f : Fin 384 → Fin 384 → EReal) (h w : Fin 384) : Prop :=
  ∀ h' w', f h' w' ≤ f h w ∧ (f h' w' = f h w → 384 * h.val + w.val ≤ 384 * h'.val + w'.val)

/-- A plane has at most one first maximum. -/
theorem IsFirst.unique {f : Fin 384 → Fin 384 → EReal} {h w h' w' : Fin 384} (a : IsFirst f h w) (b : IsFirst f h' w') :
    h = h' ∧ w = w' := by
  have e : f h' w' = f h w := le_antisymm (a h' w').1 (b h w).1
  have h1 := (a h' w').2 e
  have h2 := (b h w).2 e.symm
  constructor <;> apply Fin.ext <;> omega

/-- The extended real that the word 0xFF800000 stands for is the least one. -/
theorem bot_word : Ideal.ofBits FTy.f32 4286578688#32 = ⊥ := by
  simp [Ideal.ofBits, Ideal.ieee]

/-- The maximum of a row of 384 extended reals: an upper bound. -/
theorem le_fold (g : Fin 384 → EReal) (x : Fin 384) : g x ≤ Finset.univ.fold max (⊥ : EReal) g :=
  (Finset.le_fold_max _).2 (.inr ⟨x, Finset.mem_univ x, le_rfl⟩)

/-- The maximum of a row of 384 extended reals is reached at a first place. -/
theorem exists_first (g : Fin 384 → EReal) :
    ∃ x, g x = Finset.univ.fold max (⊥ : EReal) g ∧ ∀ y, g y = Finset.univ.fold max (⊥ : EReal) g → x ≤ y := by
  have hne : (Finset.univ.filter fun x => g x = Finset.univ.fold max (⊥ : EReal) g).Nonempty := by
    obtain ⟨x, -, hx⟩ := Finset.exists_max_image Finset.univ g ⟨0, Finset.mem_univ 0⟩
    refine ⟨x, Finset.mem_filter.2 ⟨Finset.mem_univ x, le_antisymm (le_fold g x) ?_⟩⟩
    exact (Finset.fold_max_le _).2 ⟨bot_le, fun y hy => hx y hy⟩
  refine ⟨_, (Finset.mem_filter.1 (Finset.min'_mem _ hne)).2, fun y hy => ?_⟩
  exact Finset.min'_le _ _ (Finset.mem_filter.2 ⟨Finset.mem_univ y, hy⟩)

/-- A fold of the signed minimum is the entry that is at most every other and at most the word folded from. -/
theorem fold_minsi (g : Fin 384 → BitVec 32) (b : BitVec 32) (x : Fin 384) (hx : ∀ y, (g x).toInt ≤ (g y).toInt)
    (hb : (g x).toInt ≤ b.toInt) : Finset.univ.fold IntOp.minsi b g = g x := by
  apply BitVec.eq_of_toInt_eq
  rw [← Finset.fold_hom (op' := min) (m := BitVec.toInt) SortNet.toInt_minsi]
  apply le_antisymm
  · exact (Finset.fold_min_le _).2 (.inr ⟨x, Finset.mem_univ x, le_rfl⟩)
  · exact (Finset.le_fold_min _).2 ⟨hb, fun y _ => hx y⟩

/-- The signed value of a coordinate's word. -/
theorem toInt_coord (x : Fin 384) : (BitVec.ofNat 32 x.val).toInt = x.val := by
  rw [BitVec.toInt_eq_toNat_cond, BitVec.toNat_ofNat]
  have := x.isLt
  rw [Nat.mod_eq_of_lt (by omega), if_pos (by omega)]

/-- The words of two coordinates are equal exactly when the coordinates are. -/
theorem coord_inj (x y : Fin 384) : BitVec.ofNat 32 x.val = BitVec.ofNat 32 y.val ↔ x = y := by
  constructor
  · intro h
    have := congrArg BitVec.toInt h
    rw [toInt_coord, toInt_coord] at this
    exact Fin.ext (by omega)
  · rintro rfl; rfl

/-- The least word among the coordinates at which `P` holds, the others replaced by the greatest word: the first such coordinate. -/
theorem fold_first (P : Fin 384 → Prop) [DecidablePred P] (x : Fin 384) (hx : P x) (hmin : ∀ y, P y → x ≤ y) :
    Finset.univ.fold IntOp.minsi 2147483647#32 (fun y => if P y then BitVec.ofNat 32 y.val else 2147483647#32)
      = BitVec.ofNat 32 x.val := by
  have hb : (2147483647#32 : BitVec 32).toInt = 2147483647 := by decide
  have hlt := x.isLt
  rw [fold_minsi _ _ x, if_pos hx]
  · intro y
    rw [if_pos hx, toInt_coord]
    split
    · next hy => rw [toInt_coord]; have := Fin.le_def.1 (hmin y hy); omega
    · omega
  · rw [if_pos hx, toInt_coord]; omega

/-- The word kept at one coordinate, the others replaced by the greatest word: their least is the word kept. -/
theorem fold_only (x w : Fin 384) (g : Fin 384 → BitVec 32) (hg : g x = BitVec.ofNat 32 w.val) :
    Finset.univ.fold IntOp.minsi 2147483647#32 (fun y => if y = x then g y else 2147483647#32) = BitVec.ofNat 32 w.val := by
  have hb : (2147483647#32 : BitVec 32).toInt = 2147483647 := by decide
  have hlt := w.isLt
  rw [fold_minsi _ _ x, if_pos rfl, hg]
  · intro y
    rw [if_pos rfl, hg, toInt_coord]
    split
    · next hy => rw [hy, hg, toInt_coord]
    · omega
  · rw [if_pos rfl, hg, toInt_coord]; omega

/-- The row's first column and the plane's first row give the plane's first maximum. -/
theorem isFirst_of (f : Fin 384 → Fin 384 → EReal) (h w : Fin 384)
    (hh : Finset.univ.fold max ⊥ (f h) = Finset.univ.fold max ⊥ fun x => Finset.univ.fold max (⊥ : EReal) (f x))
    (hmin : ∀ y, Finset.univ.fold max ⊥ (f y) = (Finset.univ.fold max ⊥ fun x => Finset.univ.fold max (⊥ : EReal) (f x)) → h ≤ y)
    (hw : f h w = Finset.univ.fold max ⊥ (f h)) (wmin : ∀ y, f h y = Finset.univ.fold max ⊥ (f h) → w ≤ y) :
    IsFirst f h w := by
  intro h' w'
  have a : f h' w' ≤ Finset.univ.fold max ⊥ (f h') := le_fold (f h') w'
  have b := le_fold (fun x => Finset.univ.fold max (⊥ : EReal) (f x)) h'
  rw [← hh, ← hw] at b
  refine ⟨a.trans b, fun e => ?_⟩
  rw [e] at a
  have hr : Finset.univ.fold max ⊥ (f h') = f h w := le_antisymm b a
  have h1 := hmin h' (by rw [hr, hw, hh])
  rcases lt_or_eq_of_le h1 with h2 | rfl
  · have := Fin.lt_def.1 h2; omega
  · have := Fin.le_def.1 (wmin w' (by rw [e, hw])); omega

/-- A word comparison for equality as a bit. -/
theorem cmpi_eq_bit (a b : BitVec 32) : IntOp.cmpi CmpIPredicate.eq a b = if a = b then 1#1 else 0#1 := by
  by_cases h : a = b
  · simp [IntOp.cmpi, h]
  · simp [IntOp.cmpi, h, beq_false_of_ne h]

/-- The kernel's choice at (h, w), over its maxima and its least words: zero at the plane's first maximum, the entry elsewhere. -/
theorem select_first (f : Fin 384 → Fin 384 → EReal) (h w : Fin 384) (a : EReal)
    [∀ x y : EReal, Decidable (x = y)] [Decidable (IsFirst f h w)] :
    Scalar.select
      (IntOp.andi
        (IntOp.cmpi CmpIPredicate.eq (BitVec.ofNat 32 h.val)
          (Finset.univ.fold IntOp.minsi 2147483647#32 fun x : Fin 384 =>
            if Finset.univ.fold max ⊥ (f x) = (Finset.univ.fold max ⊥ fun x => Finset.univ.fold max (⊥ : EReal) (f x)) then
              BitVec.ofNat 32 x.val else 2147483647#32))
        (IntOp.cmpi CmpIPredicate.eq (BitVec.ofNat 32 w.val)
          (Finset.univ.fold IntOp.minsi 2147483647#32 fun x : Fin 384 =>
            Scalar.select
              (IntOp.cmpi CmpIPredicate.eq (BitVec.ofNat 32 x.val)
                (Finset.univ.fold IntOp.minsi 2147483647#32 fun x : Fin 384 =>
                  if Finset.univ.fold max ⊥ (f x) = (Finset.univ.fold max ⊥ fun x => Finset.univ.fold max (⊥ : EReal) (f x)) then
                    BitVec.ofNat 32 x.val else 2147483647#32))
              (Finset.univ.fold IntOp.minsi 2147483647#32 fun y : Fin 384 =>
                if f x y = Finset.univ.fold max ⊥ (f x) then BitVec.ofNat 32 y.val else 2147483647#32)
              2147483647#32)))
      (0 : EReal) a = if IsFirst f h w then 0 else a := by
  obtain ⟨h0, hh, hmin⟩ := exists_first fun x => Finset.univ.fold max (⊥ : EReal) (f x)
  obtain ⟨w0, hw, wmin⟩ := exists_first (f h0)
  have first := isFirst_of f h0 w0 hh hmin hw wmin
  rw [fold_first _ h0 hh hmin]
  have only : (Finset.univ.fold IntOp.minsi 2147483647#32 fun x : Fin 384 =>
      Scalar.select (IntOp.cmpi CmpIPredicate.eq (BitVec.ofNat 32 x.val) (BitVec.ofNat 32 h0.val))
        (Finset.univ.fold IntOp.minsi 2147483647#32 fun y : Fin 384 =>
          if f x y = Finset.univ.fold max ⊥ (f x) then BitVec.ofNat 32 y.val else 2147483647#32)
        2147483647#32) = BitVec.ofNat 32 w0.val := by
    rw [← fold_only h0 w0 (fun x => Finset.univ.fold IntOp.minsi 2147483647#32 fun y : Fin 384 =>
          if f x y = Finset.univ.fold max ⊥ (f x) then BitVec.ofNat 32 y.val else 2147483647#32) (fold_first _ w0 hw wmin)]
    congr 1
    funext x
    rw [cmpi_eq_bit]
    by_cases hx : x = h0
    · subst hx; simp [Scalar.select]
    · rw [if_neg fun e => hx ((coord_inj x h0).1 e), if_neg hx]; simp [Scalar.select]
  rw [only, cmpi_eq_bit, cmpi_eq_bit]
  by_cases hp : IsFirst f h w
  · obtain ⟨rfl, rfl⟩ := hp.unique first
    simp [Scalar.select, IntOp.andi, hp]
  · rw [if_neg hp]
    by_cases e1 : h = h0
    · by_cases e2 : w = w0
      · exact absurd (e1 ▸ e2 ▸ first) hp
      · rw [if_neg fun e => e2 ((coord_inj w w0).1 e)]; simp [Scalar.select, IntOp.andi]
    · rw [if_neg fun e => e1 ((coord_inj h h0).1 e)]; simp [Scalar.select, IntOp.andi]

end Cert.Plane

end
-- ==== Proof.Block.lean ====
/-
  What the kernel writes for one block: each plane of the block with its first maximum replaced by zero.
-/
module

public import proofs.«01_k».proof.Proof.Gen.KernelIdeal.Value
public import proofs.«01_k».proof.Proof.Plane
public import Idealize.ShloMosaic.Lib.Pointwise

@[expose] public section

noncomputable section

namespace Cert.KernelIdeal.Block

open Cert.KernelIdeal Cert.KernelIdeal.Gen Idealize.ShloMosaic Cert.Plane

open Classical in
set_option maxHeartbeats 1000000 in
/-- The block the kernel stores, at an index: zero at the first maximum of the index's plane, the loaded entry elsewhere. -/
theorem pay_apply (v : Vec Ideal S1x16x384x384 .f32) (c : Fin 16) (h w : Fin 384) :
    k0_pay1 v (ix4 (0 : Fin 1) c h w)
      = if IsFirst (fun x y => v (ix4 (0 : Fin 1) c x y)) h w then 0 else v (ix4 (0 : Fin 1) c h w) := by
  pointwise [k0_pay1]
  simp only [bot_word]
  refine Eq.trans ?_ (select_first (fun x y => v (ix4 (0 : Fin 1) c x y)) h w (v (ix4 (0 : Fin 1) c h w)))
  congr!

end Cert.KernelIdeal.Block

end
-- ==== Proof.Spec.lean ====
/-
  The array both programs end with: each plane of the argument with its first maximum replaced by zero.
-/
module

public import proofs.«01_k».proof.Proof.Plane

@[expose] public section

noncomputable section

namespace Cert.Plane

open Idealize.ShloMosaic

open Classical in
/-- The array `x` with each plane's first maximum replaced by zero. -/
def dropFirst (x : FVec Ideal ⟨4, ![4, 96, 384, 384]⟩ .f32) : FVec Ideal ⟨4, ![4, 96, 384, 384]⟩ .f32 := fun i =>
  if IsFirst (fun h w => x (ix4 (i 0) (i 1) h w)) (i 2) (i 3) then (0 : EReal) else x i

open Classical in
/-- That array at an index whose coordinates are known, the plane there being `g`. -/
theorem dropFirst_of (x : FVec Ideal ⟨4, ![4, 96, 384, 384]⟩ .f32) (i : (⟨4, ![4, 96, 384, 384]⟩ : Shape).Idx) (a : Fin 4)
    (b : Fin 96) (h w : Fin 384) (hi : i = ix4 a b h w) (g : Fin 384 → Fin 384 → EReal) (hg : ∀ h' w', g h' w' = x (ix4 a b h' w')) :
    dropFirst x i = if IsFirst g h w then 0 else g h w := by
  obtain rfl : g = fun h' w' => x (ix4 a b h' w') := funext fun h' => funext fun w' => hg h' w'
  subst hi
  rfl

end Cert.Plane

end
-- ==== Proof.KernelArray.lean ====
/-
  What the kernel's result array holds after its run: the argument with each plane's first maximum replaced by zero.
-/
module

public import proofs.«01_k».proof.Proof.Gen.KernelIdeal.Value
public import proofs.«01_k».proof.Proof.Block
public import proofs.«01_k».proof.Proof.Spec
public import Idealize.ShloMosaic.Lib.Pipeline.Value
public import Idealize.ShloMosaic.Lib.Pipeline.ValueKit

@[expose] public section

noncomputable section

namespace Cert.KernelIdeal.Array

open Cert.KernelIdeal Cert.KernelIdeal.Gen Idealize.ShloMosaic Idealize.ShloMosaic.TcCoe Idealize.SL.Sem Cert.Plane

variable (m : (ℓ : Loc nD τ sig) → Buf (Elt Ideal) ℓ)

/-- The block coordinates of the input at a grid point. -/
theorem index0 : ∀ t : Fin cfg0.N, win0_0.index t = ![(grid0.coords t 0).val, (grid0.coords t 1).val, 0, 0] :=
  (by decide +kernel : ∀ t : Fin grid0.N, win0_0.index t = ![(grid0.coords t 0).val, (grid0.coords t 1).val, 0, 0])

/-- The block coordinates of the result at a grid point. -/
theorem index1 : ∀ t : Fin cfg0.N, win0_1.index t = ![(grid0.coords t 0).val, (grid0.coords t 1).val, 0, 0] :=
  (by decide +kernel : ∀ t : Fin grid0.N, win0_1.index t = ![(grid0.coords t 0).val, (grid0.coords t 1).val, 0, 0])

/-- Four zero offsets. -/
theorem zeros : (![0, 0, 0, 0] : Fin 4 → Nat) = fun _ => 0 := funext fun a => by fin_cases a <;> rfl

/-- The result array after the run: the argument with each plane's first maximum replaced by zero. -/
theorem final (c : Dev nD) :
    (dats m 0 c).arrAt 1 cfg0.N = dropFirst (m ((c : Thread nD τ).loc main_arg0)) := by
  refine (dats m 0 c).arrAt_eq_of_covers 1 _ (by decide +kernel) fun t hf y => ?_
  blk_simp
  rw [after0_1]
  unfold out0_1
  rw [View.canon_unit_zero zeros, View.ld_unit_zero zeros]
  obtain ⟨a, b, h, w, rfl⟩ : ∃ (a : Fin 1) (b : Fin 16) (h w : Fin 384), y = ix4 a b h w :=
    ⟨y 0, y 1, y 2, y 3, by funext e; match e with | ⟨0, _⟩ => rfl | ⟨1, _⟩ => rfl | ⟨2, _⟩ => rfl | ⟨3, _⟩ => rfl⟩
  obtain rfl : a = 0 := Subsingleton.elim _ _
  have place : ∀ h' w' : Fin 384, iblk m c 0 t (ix4 (0 : Fin 1) b h' w')
      = m ((c : Thread nD τ).loc main_arg0)
          (ix4 ((win0_1.blk t).view.emb (ix4 (0 : Fin 1) b h w) 0 : Fin 4) ((win0_1.blk t).view.emb (ix4 (0 : Fin 1) b h w) 1 : Fin 96) h' w') := by
    intro h' w'
    show m ((c : Thread nD τ).loc main_arg0) ((win0_0.blk t).view.emb (ix4 (0 : Fin 1) b h' w')) = _
    congr 1
    funext e
    match e with
    | ⟨0, _⟩ => exact Fin.ext (by blk_simp [index0, index1])
    | ⟨1, _⟩ => exact Fin.ext (by blk_simp [index0, index1])
    | ⟨2, _⟩ => exact Fin.ext (by blk_simp [index0, index1])
    | ⟨3, _⟩ => exact Fin.ext (by blk_simp [index0, index1])
  have e2 : ((win0_1.blk t).view.emb (ix4 (0 : Fin 1) b h w) 2 : Fin 384) = h :=
    Fin.ext (by blk_simp [index1])
  have e3 : ((win0_1.blk t).view.emb (ix4 (0 : Fin 1) b h w) 3 : Fin 384) = w :=
    Fin.ext (by blk_simp [index1])
  have whole : (win0_1.blk t).view.emb (ix4 (0 : Fin 1) b h w)
      = ix4 ((win0_1.blk t).view.emb (ix4 (0 : Fin 1) b h w) 0 : Fin 4) ((win0_1.blk t).view.emb (ix4 (0 : Fin 1) b h w) 1 : Fin 96) h w := by
    funext e
    match e with
    | ⟨0, _⟩ => rfl
    | ⟨1, _⟩ => rfl
    | ⟨2, _⟩ => exact e2
    | ⟨3, _⟩ => exact e3
  exact (Block.pay_apply (iblk m c 0 t) b h w).trans
    (dropFirst_of (m ((c : Thread nD τ).loc main_arg0)) _ _ _ h w whole (fun h' w' => iblk m c 0 t (ix4 (0 : Fin 1) b h' w')) place).symm

end Cert.KernelIdeal.Array

end
-- ==== Proof.RefRun.lean ====
/-
  What the reference ends holding: its operations composed over its argument, one definition per stage.
-/
module

public import proofs.«01_k».proof.Defs
public import proofs.«01_k».proof.Proof.Gen.ReferenceIdeal
public import Idealize.ShloMosaic.Adequacy
public import Idealize.ShloMosaic.Init
public import Idealize.ShloMosaic.Lib.Claim
public import Idealize.ShloMosaic.Lib.Quiescent
public import Idealize.ShloMosaic.Lib.StableHlo.RunHlo
public import Idealize.ShloMosaic.Lib.StableHlo.RunRead

@[expose] public section

noncomputable section

namespace Cert.RefRun

open Idealize.ShloMosaic Idealize.SL.Sem Cert.ReferenceIdeal

attribute [local instance] Cert.ReferenceIdeal.Gen.facts

/-- The argument with each plane laid out as one row. -/
def flat (x : FVec Ideal S4x96x384x384 .f32) : FVec Ideal S4x96x147456 .f32 :=
  shapeCast S4x96x147456 x Facts₀.shapeCasts_S4x96x384x384_S4x96x147456

/-- The value and the index the reference's reduction ends with for each row. -/
def reduced (x : FVec Ideal S4x96x384x384 .f32) : S4x96.Idx → Ideal .f32 × BitVec 32 := fun j =>
  Host.argReduce reducer_argmax_f32_i32 (flat x) (iotaInDim S4x96x147456 32 2) (constant S_ .f32 0xFF800000#32)
    (constantI S_ 32 0#32) Facts₀.reducesTo_S4x96x147456_S4x96_d2 Facts₀.h_S_ j

/-- The indices of an array of values and indices. -/
def indices (p : S4x96.Idx → Ideal .f32 × BitVec 32) : IVec S4x96 32 := fun j => (p j).2

/-- An index of that array. -/
theorem indices_apply (p : S4x96.Idx → Ideal .f32 × BitVec 32) (j : S4x96.Idx) : indices p j = (p j).2 := rfl

/-- The index the reference's reduction ends with for each row. -/
def best (x : FVec Ideal S4x96x384x384 .f32) : IVec S4x96 32 := indices (reduced x)

/-- `best` by its two steps. -/
theorem best_eq (x : FVec Ideal S4x96x384x384 .f32) : best x = indices (reduced x) := rfl

/-- The first components of the scatter's indices, a negative one moved up by 4. -/
def starts0 : IVec S4x96x1 32 :=
  let i := broadcastInDim S4x1 ![0] Facts₀.bcast_S4_S4x1_0 (iotaInDim S4 32 0)
  broadcastInDim S4x96x1 ![0, 1] Facts₀.bcast_S4x96_S4x96x1_0_1
    (broadcastInDim S4x96 ![0, 1] Facts₀.bcast_S4x1_S4x96_0_1
      (select (cmpi .slt i (broadcastInDim S4x1 ![] Facts₀.bcast_S_S4x1 (constantI S_ 32 0#32)))
        (addi i (broadcastInDim S4x1 ![] Facts₀.bcast_S_S4x1 (constantI S_ 32 4#32))) i))

/-- The second components of the scatter's indices, a negative one moved up by 96. -/
def starts1 : IVec S4x96x1 32 :=
  let i := broadcastInDim S1x96 ![1] Facts₀.bcast_S96_S1x96_1 (iotaInDim S96 32 0)
  broadcastInDim S4x96x1 ![0, 1] Facts₀.bcast_S4x96_S4x96x1_0_1
    (broadcastInDim S4x96 ![0, 1] Facts₀.bcast_S1x96_S4x96_0_1
      (select (cmpi .slt i (broadcastInDim S1x96 ![] Facts₀.bcast_S_S1x96 (constantI S_ 32 0#32)))
        (addi i (broadcastInDim S1x96 ![] Facts₀.bcast_S_S1x96 (constantI S_ 32 96#32))) i))

/-- The third components of the scatter's indices from the rows' indices `n`, a negative one moved up by 147456. -/
def starts2 (n : IVec S4x96 32) : IVec S4x96x1 32 :=
  broadcastInDim S4x96x1 ![0, 1] Facts₀.bcast_S4x96_S4x96x1_0_1
    (select (cmpi .slt n (broadcastInDim S4x96 ![] Facts₀.bcast_S_S4x96 (constantI S_ 32 0#32)))
      (addi n (broadcastInDim S4x96 ![] Facts₀.bcast_S_S4x96 (constantI S_ 32 147456#32))) n)

/-- Three index components side by side. -/
def beside (u v w : IVec S4x96x1 32) : IVec S4x96x3 32 :=
  concatenate S4x96x3 2 [⟨S4x96x1, u⟩, ⟨S4x96x1, v⟩, ⟨S4x96x1, w⟩] Facts₀.concatenates_S4x96x1_S4x96x1_S4x96x1_S4x96x3_d2

/-- Ones, with zeros put where the indices `i` say. -/
def mask (i : IVec S4x96x3 32) : FVec Ideal S4x96x147456 .f32 :=
  Host.scatter scatter_S4x96x147456_S4x96x3_S4x96_n_012_012_2 (fun _ b => b)
    (broadcastInDim S4x96x147456 ![] Facts₀.bcast_S_S4x96x147456 (constant S_ .f32 0x3F800000#32)) i
    (broadcastInDim S4x96 ![] Facts₀.bcast_S_S4x96 (constant S_ .f32 0x00000000#32))

/-- The reference's result over its argument. -/
def out (x : FVec Ideal S4x96x384x384 .f32) : FVec Ideal S4x96x384x384 .f32 :=
  shapeCast S4x96x384x384 (mulf (flat x) (mask (beside starts0 starts1 (starts2 (best x)))))
    Facts₀.shapeCasts_S4x96x147456_S4x96x384x384

/-- The concatenation the reference prints is `beside` of its pieces. -/
theorem concatenate_eq_beside (u v w : IVec S4x96x1 32) (h) :
    concatenate S4x96x3 2 [⟨S4x96x1, u⟩, ⟨S4x96x1, v⟩, ⟨S4x96x1, w⟩] h = beside u v w := rfl

set_option maxRecDepth 65536 in
set_option maxHeartbeats 2000000 in
/-- The reference runs, ends with `out` of its argument in its result and its argument as it was, and every semaphore at rest. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      (∀ c : Dev nD, r.2.mem ((c.tc : Thread nD τ).loc main_v31) = out (m ((c.tc : Thread nD τ).loc main_arg0))
        ∧ r.2.mem ((c.tc : Thread nD τ).loc main_arg0) = m ((c.tc : Thread nD τ).loc main_arg0))
      ∧ r.2.sem = fun _ => 0 := by
  refine θ_run_mono (StableHlo.run_hlo _ _ (by hlo_seq) (by decide) (by decide) (by simp)
    (by intro _ h; (repeat (cases h with | head => rfl | tail _ h => ?_)); exact nomatch h) _ _) ?_
  intro r hr
  refine ⟨fun c => ⟨?_, ?_⟩, sem_eq_zero_of_no_sems (by decide) _⟩
  · rw [hr c main_v31]
    after_reads_simp
    change (fun i => shapeCast S4x96x384x384 (mulf _ (mask (beside _ _ _))) _ i) = _
    dsimp only [Matrix.cons_val]
    after_reads_simp
    rfl
  · rw [hr c main_arg0]
    after_reads_simp

end Cert.RefRun

end
-- ==== Proof.Argmax.lean ====
/-
  What the reference's reduction computes: of the pairs it folds over and the pair it starts from, one whose value is greatest
  and whose index is least among those.
-/
module

public import proofs.«01_k».proof.Proof.RefRun
public import proofs.«01_k».proof.Proof.Plane

@[expose] public section

noncomputable section

namespace Cert.Argmax

open Idealize.ShloMosaic Cert.ReferenceIdeal

attribute [local instance] Cert.ReferenceIdeal.Gen.facts

/-- Pair `r` is at least as good as pair `p`: a greater value, or the same value at an index not greater. -/
def AsGood (r p : EReal × BitVec 32) : Prop := p.1 < r.1 ∨ (p.1 = r.1 ∧ r.2.toInt ≤ p.2.toInt)

/-- A pair is as good as itself. -/
theorem AsGood.refl (r : EReal × BitVec 32) : AsGood r r := .inr ⟨rfl, le_rfl⟩

/-- Being as good is transitive. -/
theorem AsGood.trans {r p q : EReal × BitVec 32} (a : AsGood r p) (b : AsGood p q) : AsGood r q := by
  rcases a with a | ⟨a, a'⟩ <;> rcases b with b | ⟨b, b'⟩
  · exact .inl (b.trans a)
  · exact .inl (b ▸ a)
  · exact .inl (a ▸ b)
  · exact .inr ⟨b.trans a, a'.trans b'⟩

/-- The reduction's step keeps one of its two pairs, at least as good as both. -/
theorem step (a b : EReal × BitVec 32) :
    (reducer_argmax_f32_i32 (F := Ideal) a b = a ∧ AsGood a b) ∨ (reducer_argmax_f32_i32 (F := Ideal) a b = b ∧ AsGood b a) := by
  obtain ⟨a1, a2⟩ := a
  obtain ⟨b1, b2⟩ := b
  have hne : FloatOps.cmpf (F := Ideal) (φ := .f32) CmpFPredicate.une a1 a1 = 0#1 := by simp [Ideal.cmpf_def, Ideal.cmp]
  rcases lt_trichotomy a1 b1 with h | h | h
  · right
    refine ⟨?_, .inl h⟩
    have h1 : FloatOps.cmpf (F := Ideal) (φ := .f32) CmpFPredicate.ogt a1 b1 = 0#1 := by
      simp [Ideal.cmpf_def, Ideal.cmp, not_lt.2 h.le]
    have h2 : FloatOps.cmpf (F := Ideal) (φ := .f32) CmpFPredicate.oeq a1 b1 = 0#1 := by
      simp [Ideal.cmpf_def, Ideal.cmp, h.ne]
    simp [reducer_argmax_f32_i32, h1, h2, hne, IntOp.ori, IntOp.andi, Scalar.select]
  · subst h
    have h1 : FloatOps.cmpf (F := Ideal) (φ := .f32) CmpFPredicate.ogt a1 a1 = 0#1 := by
      simp [Ideal.cmpf_def, Ideal.cmp]
    have h2 : FloatOps.cmpf (F := Ideal) (φ := .f32) CmpFPredicate.oeq a1 a1 = 1#1 := by
      simp [Ideal.cmpf_def, Ideal.cmp]
    by_cases hs : a2.toInt < b2.toInt
    · left
      have h3 : IntOp.cmpi CmpIPredicate.slt a2 b2 = 1#1 := by
        simp [IntOp.cmpi, BitVec.slt, hs]
      refine ⟨?_, .inr ⟨rfl, hs.le⟩⟩
      simp [reducer_argmax_f32_i32, h1, h2, h3, hne, IntOp.ori, IntOp.andi, Scalar.select]
    · right
      have h3 : IntOp.cmpi CmpIPredicate.slt a2 b2 = 0#1 := by
        simp [IntOp.cmpi, BitVec.slt, hs]
      refine ⟨?_, .inr ⟨rfl, not_lt.1 hs⟩⟩
      simp [reducer_argmax_f32_i32, h1, h2, h3, hne, IntOp.ori, IntOp.andi, Scalar.select]
  · left
    refine ⟨?_, .inl h⟩
    have h1 : FloatOps.cmpf (F := Ideal) (φ := .f32) CmpFPredicate.ogt a1 b1 = 1#1 := by
      simp [Ideal.cmpf_def, Ideal.cmp, h]
    have h2 : FloatOps.cmpf (F := Ideal) (φ := .f32) CmpFPredicate.oeq a1 b1 = 0#1 := by
      simp [Ideal.cmpf_def, Ideal.cmp, h.ne']
    simp [reducer_argmax_f32_i32, h1, hne, h2, IntOp.ori, IntOp.andi, Scalar.select]

/-- The fold of the step over a list, from a first pair, ends with one of these pairs, at least as good as every one of them. -/
theorem foldl_best (l : List (EReal × BitVec 32)) (p : EReal × BitVec 32) :
    (l.foldl (reducer_argmax_f32_i32 (F := Ideal)) p = p ∨ l.foldl (reducer_argmax_f32_i32 (F := Ideal)) p ∈ l)
      ∧ AsGood (l.foldl (reducer_argmax_f32_i32 (F := Ideal)) p) p
      ∧ ∀ q ∈ l, AsGood (l.foldl (reducer_argmax_f32_i32 (F := Ideal)) p) q := by
  induction l generalizing p with
  | nil => exact ⟨.inl rfl, .refl p, fun q hq => nomatch hq⟩
  | cons b l ih =>
    obtain ⟨m, g, k⟩ := ih (reducer_argmax_f32_i32 (F := Ideal) p b)
    rw [List.foldl_cons]
    rcases step p b with ⟨e, h⟩ | ⟨e, h⟩
    · rw [e] at m g k ⊢
      exact ⟨m.imp id (List.mem_cons_of_mem _), g, fun q hq => (List.mem_cons.1 hq).elim (fun h' => h' ▸ g.trans h) (k q)⟩
    · rw [e] at m g k ⊢
      exact ⟨.inr (List.mem_cons.2 m), g.trans h,
        fun q hq => (List.mem_cons.1 hq).elim (fun h' => h' ▸ g) (k q)⟩

/-- The signed value of a row index's word. -/
theorem toInt_row (k : Fin 147456) : (BitVec.ofNat 32 k.val).toInt = k.val := by
  rw [BitVec.toInt_eq_toNat_cond, BitVec.toNat_ofNat]
  have := k.isLt
  rw [Nat.mod_eq_of_lt (by omega), if_pos (by omega)]

/-- The fold over the pairs of a row's values and indices, from the least value at index 0, ends at the row's first maximum. -/
theorem fold_first (g : Fin 147456 → EReal) (l : List (EReal × BitVec 32))
    (mem : ∀ p, p ∈ l ↔ ∃ k : Fin 147456, p = (g k, BitVec.ofNat 32 k.val)) :
    ∃ k : Fin 147456, (l.foldl (reducer_argmax_f32_i32 (F := Ideal)) ((⊥ : EReal), 0#32)).2 = BitVec.ofNat 32 k.val
      ∧ ∀ k' : Fin 147456, g k' ≤ g k ∧ (g k' = g k → k ≤ k') := by
  obtain ⟨m, -, good⟩ := foldl_best l ((⊥ : EReal), 0#32)
  generalize List.foldl (reducer_argmax_f32_i32 (F := Ideal)) ((⊥ : EReal), 0#32) l = r at m good ⊢
  have good' : ∀ k : Fin 147456, AsGood r (g k, BitVec.ofNat 32 k.val) :=
    fun k => good _ ((mem _).2 ⟨k, rfl⟩)
  rcases m with rfl | m
  · have bot : ∀ k : Fin 147456, g k = ⊥ := fun k =>
      (good' k).elim (fun h => absurd h not_lt_bot) fun h => h.1
    exact ⟨0, rfl, fun k' => ⟨by rw [bot, bot], fun _ => Fin.zero_le _⟩⟩
  · obtain ⟨k, rfl⟩ := (mem r).1 m
    refine ⟨k, rfl, fun k' => ?_⟩
    rcases good' k' with h | ⟨h, h'⟩
    · exact ⟨le_of_lt h, fun e => absurd e (ne_of_lt h)⟩
    · refine ⟨le_of_eq h, fun _ => Fin.le_def.2 ?_⟩
      rw [toInt_row, toInt_row] at h'
      exact Int.ofNat_le.1 h'

/-- The pairs the reduction folds over at row (b, c): the row's values beside their indices. -/
theorem mem_fiber (y : FVec Ideal S4x96x147456 .f32) (b : Fin 4) (c : Fin 96) (p : EReal × BitVec 32) :
    p ∈ Host.argReduceFiber y (iotaInDim S4x96x147456 32 2) Facts₀.reducesTo_S4x96x147456_S4x96_d2 (ix2 b c)
      ↔ ∃ k : Fin 147456, p = (y (ix3 b c k), BitVec.ofNat 32 k.val) := by
  simp only [Host.argReduceFiber, List.mem_map, List.mem_filter, List.mem_finRange, true_and, decide_eq_true_eq]
  constructor
  · rintro ⟨n, hn, rfl⟩
    generalize S4x96x147456.rowMajor.symm n = i at hn ⊢
    have e0 := Shape.ReducesTo.drop_apply_val_of_eq Facts₀.reducesTo_S4x96x147456_S4x96_d2 i 0 0
    have e1 := Shape.ReducesTo.drop_apply_val_of_eq Facts₀.reducesTo_S4x96x147456_S4x96_d2 i 1 1
    rw [hn] at e0 e1
    obtain ⟨k, rfl⟩ : ∃ k : Fin 147456, i = ix3 b c k := by
      refine ⟨i 2, ?_⟩
      funext e
      match e with
      | ⟨0, _⟩ => exact Fin.ext e0.symm
      | ⟨1, _⟩ => exact Fin.ext e1.symm
      | ⟨2, _⟩ => rfl
    exact ⟨k, rfl⟩
  · rintro ⟨k, rfl⟩
    refine ⟨S4x96x147456.rowMajor (ix3 b c k), ?_, ?_⟩
    · rw [Equiv.symm_apply_apply]
      funext e
      match e with
      | ⟨0, _⟩ => exact Fin.ext (Shape.ReducesTo.drop_apply_val_of_eq Facts₀.reducesTo_S4x96x147456_S4x96_d2 (ix3 b c k) 0 0)
      | ⟨1, _⟩ => exact Fin.ext (Shape.ReducesTo.drop_apply_val_of_eq Facts₀.reducesTo_S4x96x147456_S4x96_d2 (ix3 b c k) 1 1)
    · rw [Equiv.symm_apply_apply]; rfl

/-- The pair the reduction starts from: the least extended real at index 0. -/
theorem start_pair (i : S_.Idx) :
    ((constant S_ .f32 0xFF800000#32 i : Ideal .f32), constantI S_ 32 0#32 i) = ((⊥ : EReal), 0#32) :=
  Prod.ext Plane.bot_word rfl

/-- The index the reduction ends with for a row, as a fold over the row's pairs. -/
theorem argReduce_fold (y : FVec Ideal S4x96x147456 .f32) (j : S4x96.Idx) :
    Host.argReduce (reducer_argmax_f32_i32 (F := Ideal)) y (iotaInDim S4x96x147456 32 2) (constant S_ .f32 0xFF800000#32)
      (constantI S_ 32 0#32) Facts₀.reducesTo_S4x96x147456_S4x96_d2 Facts₀.h_S_ j
      = List.foldl (reducer_argmax_f32_i32 (F := Ideal)) ((constant S_ .f32 0xFF800000#32 (Shape.Idx.first Facts₀.h_S_) : Ideal .f32), constantI S_ 32 0#32 (Shape.Idx.first Facts₀.h_S_))
        (Host.argReduceFiber y (iotaInDim S4x96x147456 32 2) Facts₀.reducesTo_S4x96x147456_S4x96_d2 j) :=
  (congrFun (Ideal.argReduce_eq_reduce2 (φ := .f32) _ _ _ _ _ _ _) j).trans (Host.reduce2_eq_foldl_fiber _ _ _ _ _ _ _ j)

/-- The index the reduction ends with for a row: the word of the row's first maximum. -/
theorem best_first (x : FVec Ideal S4x96x384x384 .f32) (b : Fin 4) (c : Fin 96) :
    ∃ k : Fin 147456, RefRun.best x (ix2 b c) = BitVec.ofNat 32 k.val
      ∧ ∀ k' : Fin 147456, RefRun.flat x (ix3 b c k') ≤ RefRun.flat x (ix3 b c k)
        ∧ (RefRun.flat x (ix3 b c k') = RefRun.flat x (ix3 b c k) → k ≤ k') := by
  obtain ⟨k, hk, first⟩ := fold_first (fun k => RefRun.flat x (ix3 b c k)) _ (mem_fiber (RefRun.flat x) b c)
  refine ⟨k, ?_, first⟩
  have fold : RefRun.reduced x (ix2 b c) = List.foldl (reducer_argmax_f32_i32 (F := Ideal)) ((⊥ : EReal), 0#32)
      (Host.argReduceFiber (RefRun.flat x) (iotaInDim S4x96x147456 32 2) Facts₀.reducesTo_S4x96x147456_S4x96_d2 (ix2 b c)) := by
    refine (argReduce_fold (RefRun.flat x) (ix2 b c)).trans ?_
    generalize Host.argReduceFiber (RefRun.flat x) (iotaInDim S4x96x147456 32 2) Facts₀.reducesTo_S4x96x147456_S4x96_d2 (ix2 b c) = l
    rw [start_pair]
  generalize Host.argReduceFiber (RefRun.flat x) (iotaInDim S4x96x147456 32 2) Facts₀.reducesTo_S4x96x147456_S4x96_d2 (ix2 b c) = l
    at hk fold
  rw [RefRun.best_eq, RefRun.indices_apply, fold]
  exact hk

end Cert.Argmax

end
-- ==== Proof.Starts.lean ====
/-
  The indices the reference scatters at: for plane (b, c) the three words b, c and the plane's index.
-/
module

public import proofs.«01_k».proof.Proof.Argmax
public import Idealize.ShloMosaic.Lib.Pointwise

@[expose] public section

noncomputable section

namespace Cert.Starts

open Idealize.ShloMosaic Cert.ReferenceIdeal Cert.RefRun

attribute [local instance] Cert.ReferenceIdeal.Gen.facts

/-- A word that is not negative is kept where a negative one would be replaced. -/
theorem select_nonneg (v w : BitVec 32) (h : 0 ≤ v.toInt) : Scalar.select (IntOp.cmpi CmpIPredicate.slt v 0#32) w v = v := by
  have : IntOp.cmpi CmpIPredicate.slt v 0#32 = 0#1 := by
    simp [IntOp.cmpi, BitVec.slt, not_lt.2 h]
  rw [this]; simp [Scalar.select]

/-- The signed value of a number's word, below 2³¹. -/
theorem toInt_ofNat (n : Nat) (h : n < 2147483648) : (BitVec.ofNat 32 n).toInt = n := by
  rw [BitVec.toInt_eq_toNat_cond, BitVec.toNat_ofNat, Nat.mod_eq_of_lt (by omega), if_pos (by omega)]

/-- The first component for row (b, c) is b. -/
theorem starts0_apply (b : Fin 4) (c : Fin 96) : starts0 (ix3 b c (0 : Fin 1)) = BitVec.ofNat 32 b.val := by
  have hb := b.isLt
  pointwise [starts0]
  exact select_nonneg _ _ (by rw [toInt_ofNat _ (by omega)]; omega)

/-- The second component for row (b, c) is c. -/
theorem starts1_apply (b : Fin 4) (c : Fin 96) : starts1 (ix3 b c (0 : Fin 1)) = BitVec.ofNat 32 c.val := by
  have hc := c.isLt
  pointwise [starts1]
  exact select_nonneg _ _ (by rw [toInt_ofNat _ (by omega)]; omega)

/-- The third component for row (b, c) is the row's index, where that is not negative. -/
theorem starts2_apply (n : IVec S4x96 32) (b : Fin 4) (c : Fin 96) (h : 0 ≤ (n (ix2 b c)).toInt) :
    starts2 n (ix3 b c (0 : Fin 1)) = n (ix2 b c) := by
  pointwise [starts2]
  exact select_nonneg _ _ h

/-- Three components side by side, one at a time. -/
theorem beside_apply (u v w : IVec S4x96x1 32) (b : Fin 4) (c : Fin 96) :
    beside u v w (ix3 b c (0 : Fin 3)) = u (ix3 b c (0 : Fin 1)) ∧ beside u v w (ix3 b c (1 : Fin 3)) = v (ix3 b c (0 : Fin 1))
      ∧ beside u v w (ix3 b c (2 : Fin 3)) = w (ix3 b c (0 : Fin 1)) := by
  refine ⟨?_, ?_, ?_⟩
  · pointwise [beside]
  · pointwise [beside]
  · pointwise [beside]

end Cert.Starts

end
-- ==== Proof.Mask.lean ====
/-
  The reference's mask: zero at one place of each row, one elsewhere.
-/
module

public import proofs.«01_k».proof.Proof.RefRun
public import Idealize.ShloMosaic.Lib.Pointwise
public import Idealize.ShloMosaic.Lib.Routing.OpsSet
public import Idealize.ShloMosaic.Lib.Routing.OpsPair

@[expose] public section

noncomputable section

namespace Cert.Mask

open Idealize.ShloMosaic Cert.ReferenceIdeal Cert.RefRun

attribute [local instance] Cert.ReferenceIdeal.Gen.facts

/-- The reference's scatter: one number of each row's three index words, into a place of the array. -/
abbrev d : ScatterDims S4x96x147456 S4x96x3 S4x96 := scatter_S4x96x147456_S4x96x3_S4x96_n_012_012_2

/-- The update of row (b, c) lands where the row's three index words say. -/
theorem lands (i : IVec S4x96x3 32) (b : Fin 4) (c : Fin 96) (b' : Fin 4) (c' : Fin 96) (k : Fin 147456) :
    d.resultIdx? (ix2 b c) i = some (ix3 b' c' k) ↔ (i (ix3 b c (0 : Fin 3))).toInt = b'.val
      ∧ (i (ix3 b c (1 : Fin 3))).toInt = c'.val ∧ (i (ix3 b c (2 : Fin 3))).toInt = k.val := by
  have s0 : d.start (ix2 b c) i 0 = (i (ix3 b c (0 : Fin 3))).toInt := by
    have : d.siIdx (ix2 b c) ⟨0, by decide⟩ = ix3 b c (0 : Fin 3) := by
      funext e
      match e with
      | ⟨0, _⟩ => rfl
      | ⟨1, _⟩ => rfl
      | ⟨2, _⟩ => rfl
    rw [← this]; rfl
  have s1 : d.start (ix2 b c) i 1 = (i (ix3 b c (1 : Fin 3))).toInt := by
    have : d.siIdx (ix2 b c) ⟨1, by decide⟩ = ix3 b c (1 : Fin 3) := by
      funext e
      match e with
      | ⟨0, _⟩ => rfl
      | ⟨1, _⟩ => rfl
      | ⟨2, _⟩ => rfl
    rw [← this]; rfl
  have s2 : d.start (ix2 b c) i 2 = (i (ix3 b c (2 : Fin 3))).toInt := by
    have : d.siIdx (ix2 b c) ⟨2, by decide⟩ = ix3 b c (2 : Fin 3) := by
      funext e
      match e with
      | ⟨0, _⟩ => rfl
      | ⟨1, _⟩ => rfl
      | ⟨2, _⟩ => rfl
    rw [← this]; rfl
  have w0 : ∀ a, d.window (ix2 b c) a = 0 := by
    intro a
    unfold ScatterDims.window
    exact dif_neg (by revert a; decide)
  rw [Routing.resultIdx?_eq_some]
  constructor
  · intro h
    have h0 := h 0
    have h1 := h 1
    have h2 := h 2
    rw [w0, s0] at h0
    rw [w0, s1] at h1
    rw [w0, s2] at h2
    exact ⟨by simpa using h0, by simpa using h1, by simpa using h2⟩
  · rintro ⟨h0, h1, h2⟩ a
    rw [w0]
    match a with
    | ⟨0, _⟩ => exact (congrArg (· + _) (s0.trans h0)).trans (by simp)
    | ⟨1, _⟩ => exact (congrArg (· + _) (s1.trans h1)).trans (by simp)
    | ⟨2, _⟩ => exact (congrArg (· + _) (s2.trans h2)).trans (by simp)

/-- The mask whose index words are, for row (b, c), the numbers b, c and `n b c`: zero at `n b c` of each row, one elsewhere. -/
theorem mask_apply (i : IVec S4x96x3 32) (n : Fin 4 → Fin 96 → Fin 147456)
    (h0 : ∀ b c, (i (ix3 b c (0 : Fin 3))).toInt = b.val) (h1 : ∀ b c, (i (ix3 b c (1 : Fin 3))).toInt = c.val)
    (h2 : ∀ b c, (i (ix3 b c (2 : Fin 3))).toInt = (n b c).val) (b : Fin 4) (c : Fin 96) (k : Fin 147456) :
    mask i (ix3 b c k) = if k = n b c then (0 : EReal) else 1 := by
  unfold mask
  by_cases hk : k = n b c
  · rw [if_pos hk]
    refine Routing.scatter_set_hit d _ i _ (ix3 b c k) (0 : EReal) (fun j _ => ?_) (ix2 b c)
      ((lands i b c b c k).2 ⟨h0 b c, h1 b c, by rw [h2, hk]⟩)
    show Ideal.ofBits FTy.f32 0x00000000#32 = 0
    simp [Ideal.ofBits, Ideal.ieee]
  · rw [if_neg hk]
    refine (Routing.scatter_set_miss d _ i _ (ix3 b c k) fun j hj => hk ?_).trans ?_
    · obtain ⟨b', c', rfl⟩ : ∃ (b' : Fin 4) (c' : Fin 96), j = ix2 b' c' :=
        ⟨j 0, j 1, by funext e; match e with | ⟨0, _⟩ => rfl | ⟨1, _⟩ => rfl⟩
      obtain ⟨e0, e1, e2⟩ := (lands i b' c' b c k).1 hj
      rw [h0] at e0
      rw [h1] at e1
      rw [h2] at e2
      obtain rfl : b' = b := Fin.ext (by omega)
      obtain rfl : c' = c := Fin.ext (by omega)
      exact Fin.ext (by omega)
    · show Ideal.ofBits FTy.f32 0x3F800000#32 = 1
      simp [Ideal.ofBits, Ideal.ieee, -EReal.coe_mul]
      norm_num

end Cert.Mask

end
-- ==== Proof.RefValue.lean ====
/-
  What the reference computes: the argument with each plane's first maximum replaced by zero.
-/
module

public import proofs.«01_k».proof.Proof.Argmax
public import proofs.«01_k».proof.Proof.Starts
public import proofs.«01_k».proof.Proof.Mask
public import proofs.«01_k».proof.Proof.Spec
public import Idealize.ShloMosaic.Lib.Pipeline.Value

@[expose] public section

noncomputable section

namespace Cert.RefValue

open Idealize.ShloMosaic Cert.ReferenceIdeal Cert.RefRun Cert.Plane

attribute [local instance] Cert.ReferenceIdeal.Gen.facts

/-- The place of row h, column w of a plane in the plane laid out as one row. -/
def place (h w : Fin 384) : Fin 147456 := ⟨384 * h.val + w.val, by have := h.isLt; have := w.isLt; omega⟩

/-- Every place of the row is the place of a row and a column. -/
theorem exists_place (k : Fin 147456) : ∃ h w, k = place h w :=
  ⟨⟨k.val / 384, by have := k.isLt; omega⟩, ⟨k.val % 384, by omega⟩, Fin.ext (by simp only [place]; omega)⟩

/-- The two positions have one place in row-major order. -/
theorem position (b : Fin 4) (c : Fin 96) (h w : Fin 384) :
    (S4x96x384x384.rowMajor (ix4 b c h w)).val = (S4x96x147456.rowMajor (ix3 b c (place h w))).val := by
  have e4 := Shape.rowMajor_val_four (d := ![4, 96, 384, 384]) (ix4 b c h w)
  have e3 := Shape.rowMajor_val_three (d := ![4, 96, 147456]) (ix3 b c (place h w))
  refine e4.trans (Eq.trans ?_ e3.symm)
  show ((b.val * 96 + c.val) * 384 + h.val) * 384 + w.val = (b.val * 96 + c.val) * 147456 + (384 * h.val + w.val)
  omega

/-- An entry of the argument in the planes laid out as rows. -/
theorem flat_apply (x : FVec Ideal S4x96x384x384 .f32) (b : Fin 4) (c : Fin 96) (h w : Fin 384) :
    flat x (ix3 b c (place h w)) = x (ix4 b c h w) :=
  shapeCast_apply x _ _ _ (position b c h w)

/-- An entry of the rows put back as planes. -/
theorem planes_apply (y : FVec Ideal S4x96x147456 .f32) (hs : S4x96x147456.ShapeCasts S4x96x384x384) (b : Fin 4) (c : Fin 96)
    (h w : Fin 384) : shapeCast S4x96x384x384 y hs (ix4 b c h w) = y (ix3 b c (place h w)) :=
  shapeCast_apply y _ _ _ (position b c h w).symm

/-- The first maximum of the row is the first maximum of the plane. -/
theorem first_iff (x : FVec Ideal S4x96x384x384 .f32) (b : Fin 4) (c : Fin 96) (n : Fin 147456)
    (hn : ∀ k' : Fin 147456, flat x (ix3 b c k') ≤ flat x (ix3 b c n) ∧ (flat x (ix3 b c k') = flat x (ix3 b c n) → n ≤ k'))
    (h w : Fin 384) : place h w = n ↔ IsFirst (fun h w => x (ix4 b c h w)) h w := by
  obtain ⟨h0, w0, rfl⟩ := exists_place n
  have first : IsFirst (fun h w => x (ix4 b c h w)) h0 w0 := by
    intro h' w'
    have := hn (place h' w')
    rw [flat_apply, flat_apply] at this
    exact ⟨this.1, fun e => Fin.le_def.1 (this.2 e)⟩
  constructor
  · intro e
    have e' := congrArg Fin.val e
    simp only [place] at e'
    obtain rfl : h = h0 := Fin.ext (by have := w.isLt; have := w0.isLt; omega)
    obtain rfl : w = w0 := Fin.ext (by omega)
    exact first
  · intro a
    obtain ⟨rfl, rfl⟩ := a.unique first
    rfl

/-- The reference's result is its argument with each plane's first maximum replaced by zero. -/
theorem out_eq (x : FVec Ideal S4x96x384x384 .f32) : out x = dropFirst x := by
  choose n hn first using fun b c => Argmax.best_first x b c
  have mask_at := Mask.mask_apply (beside starts0 starts1 (starts2 (best x))) n
    (fun b c => by
      rw [(Starts.beside_apply _ _ _ b c).1, Starts.starts0_apply, Starts.toInt_ofNat _ (by have := b.isLt; omega)])
    (fun b c => by
      rw [(Starts.beside_apply _ _ _ b c).2.1, Starts.starts1_apply, Starts.toInt_ofNat _ (by have := c.isLt; omega)])
    (fun b c => by
      have e : (best x (ix2 b c)).toInt = (n b c).val := by
        rw [hn, Starts.toInt_ofNat _ (by have := (n b c).isLt; omega)]
      rw [(Starts.beside_apply _ _ _ b c).2.2, Starts.starts2_apply _ _ _ (by rw [e]; omega), e])
  funext i
  obtain ⟨b, c, h, w, rfl⟩ : ∃ (b : Fin 4) (c : Fin 96) (h w : Fin 384), i = ix4 b c h w :=
    ⟨i 0, i 1, i 2, i 3, by funext e; match e with | ⟨0, _⟩ => rfl | ⟨1, _⟩ => rfl | ⟨2, _⟩ => rfl | ⟨3, _⟩ => rfl⟩
  rw [dropFirst_of x _ b c h w rfl (fun h' w' => x (ix4 b c h' w')) (fun _ _ => rfl)]
  unfold out
  rw [planes_apply]
  show (flat x (ix3 b c (place h w)) : EReal) * mask (beside starts0 starts1 (starts2 (best x))) (ix3 b c (place h w)) = _
  rw [mask_at, flat_apply]
  by_cases hp : place h w = n b c
  · rw [if_pos hp, if_pos ((first_iff x b c _ (first b c) h w).1 hp), mul_zero]
  · rw [if_neg hp, if_neg fun a => hp ((first_iff x b c _ (first b c) h w).2 a), mul_one]

end Cert.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KernelArray
public import proofs.«01_k».proof.Proof.RefRun
public import proofs.«01_k».proof.Proof.RefValue
public import Idealize.ShloMosaic.Adequacy
public import Idealize.ShloMosaic.Init

@[expose] public section

noncomputable section

namespace Cert.Proof

open Idealize.ShloMosaic Idealize.SL.Sem

/-- The reference runs, leaves its argument unchanged and ends with every counter at zero. -/
theorem reference_frame : Cert.quiescent_ReferenceIdeal (hReferenceIdeal := Cert.ReferenceIdeal.Gen.facts) :=
  fun m g _ => (θ_run _ _ _).mono (fun _ h => ⟨fun c => (h.1 c).2, h.2⟩) (Cert.RefRun.run m g)

/-- Kernel and reference both end with the argument, each plane's first maximum replaced by zero. -/
theorem equal_results : Cert.algebraic_KernelIdeal_ReferenceIdeal (hKernelIdeal := Cert.KernelIdeal.Gen.facts)
    (hReferenceIdeal := Cert.ReferenceIdeal.Gen.facts) := by
  intro m g m' g' _ agree
  refine ⟨fun c => Cert.Plane.dropFirst (m ((c.tc : Thread Cert.KernelIdeal.nD Cert.KernelIdeal.τ).loc Cert.KernelIdeal.main_arg0)),
    ?_, ?_⟩
  · exact (θ_run _ _ _).mono (fun r h c => ⟨(h c).1.trans (Cert.KernelIdeal.Array.final m c), (h c).2⟩)
      (Cert.KernelIdeal.Value.run_blocks m g)
  · refine (θ_run _ _ _).mono (fun r h c => ⟨?_, (h.1 c).2⟩) (Cert.RefRun.run m' g')
    exact (h.1 c).1.trans ((Cert.RefValue.out_eq _).trans (congrArg Cert.Plane.dropFirst (agree c)))

/-- The certificate's claim: the three frames, the idealization and the equality of results. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, equal_results⟩

end Cert.Proof

end
